-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S1024x256 : Shape := ⟨2, ![1024, 256]⟩
abbrev S3 : Shape := ⟨1, ![3]⟩
abbrev S4 : Shape := ⟨1, ![4]⟩
abbrev S_ : Shape := ⟨0, ![]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .bf16⟩
  | .hbm, ⟨1, _⟩ => ⟨S1024x256, .bf16⟩
  | .local _ .vmem, ⟨0, _⟩ => ⟨S256x256, .bf16⟩
  | .local _ .vmem, ⟨1, _⟩ => ⟨S1024x256, .bf16⟩
  | .local _ .vmem, ⟨2, _⟩ => ⟨S256x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_19 : BitVec 32 := 1#32
  let v37 : BitVec 32 := Scalar.muli v13 c1_i32_19
  let v38 : BitVec 32 := Scalar.addi c0_i32_20 v37
  v38.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_22 : BitVec 32 := 1#32
  let v39 : BitVec 32 := Scalar.muli v24 c1_i32_22
  let v40 : BitVec 32 := Scalar.addi c0_i32_23 v39
  v40.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_25 : BitVec 32 := 1#32
  let v41 : BitVec 32 := Scalar.muli v35 c1_i32_25
  let v42 : BitVec 32 := Scalar.addi c0_i32_26 v41
  v42.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v43 : BitVec 32 := Scalar.muli v2 c256_i32
  let c0_i32_34 : BitVec 32 := 0#32
  ![v43.toNat, 0]
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_32 : BitVec 32 := 1#32
  let v49 : BitVec 32 := Scalar.muli v13 c1_i32_32
  let v50 : BitVec 32 := Scalar.addi c0_i32_33 v49
  v50.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v14 : BitVec 32 := Scalar.addi v2 c1_i32_5
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_36 : BitVec 32 := 1#32
  let v56 : BitVec 32 := Scalar.muli v24 c1_i32_36
  let v57 : BitVec 32 := Scalar.addi c0_i32_37 v56
  v57.toNat
def k0_dev6 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_40 : BitVec 32 := 1#32
  let v63 : BitVec 32 := Scalar.muli v35 c1_i32_40
  let v64 : BitVec 32 := Scalar.addi c0_i32_41 v63
  v64.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v43 : BitVec 32 := Scalar.muli v2 c256_i32
  let v71 : Index := Scalar.indexCast v43
  let c0_45 : Index := 0#32
  ![v71.toNat, 0]
def k0_off4 (d0 : Dev nD) (c2_i32 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  ![v13.toNat]
def k0_off5 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c256_i32_46 : BitVec 32 := 256#32
  let v73 : BitVec 32 := Scalar.muli v13 c256_i32_46
  let c0_i32_50 : BitVec 32 := 0#32
  ![v73.toNat, 0]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩

abbrev nBuf : Space → Nat
  | .hbm => 1
  | .vmem => 0
  | .smem => 0
  | _ => 0

abbrev bufTy : (tb : Table) → Fin (tcTables nBuf tb) → BufTy
  | .hbm, ⟨0, _⟩ => ⟨S1024x256, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.RowsKernelIdeal.lean ====
/-
# The four row blocks of the gathered array

Device `c` is the `c`-th of four. Its three peers, in the order the kernel visits them, are the
devices two, one and three places ahead of it. The result array of 1024 rows is cut into four blocks
of 256 rows, block `s` coming from device `s`. This module names the peers, the row blocks, the
semaphores by number, and the array every device ends up with; and proves what the rest of the
proof needs of them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Tactic

@[expose] public section

noncomputable section

namespace Cert.KernelIdeal.Gather

open Cert.KernelIdeal Cert.KernelIdeal.Gen

open Idealize.ShloMosaic
open Idealize.ShloMosaic.TcCoe

/-! ## The peers -/

/-- How far ahead the `j`-th peer is. -/
def hop : Fin 3 → ℕ
  | 0 => 2
  | 1 => 1
  | 2 => 3

/-- The `j`-th peer of device `c`. -/
def peer (c : Dev nD) (j : Fin 3) : Dev nD := ⟨(c.val + hop j) % 4, Nat.mod_lt _ (by decide)⟩

/-- Seen from its `j`-th peer, a device is peer number `back j`. -/
def back : Fin 3 → Fin 3
  | 0 => 0
  | 1 => 2
  | 2 => 1

theorem back_back : ∀ j, back (back j) = j := by decide
theorem peer_back : ∀ (c : Dev nD) (j : Fin 3), peer (peer c j) (back j) = c := by decide
theorem back_peer : ∀ (c : Dev nD) (j : Fin 3), peer (peer c (back j)) j = c := by decide
theorem peer_ne : ∀ (c : Dev nD) (j : Fin 3), peer c j ≠ c := by decide
theorem peer_inj : ∀ (c : Dev nD) (i j : Fin 3), peer c i = peer c j → i = j := by decide

/-- Going to the `j`-th peer is a permutation of the devices. -/
def peerPerm (j : Fin 3) : Dev nD ≃ Dev nD :=
  ⟨fun c => peer c j, fun c => peer c (back j), fun c => peer_back c j, fun c => back_peer c j⟩

/-- Device `d`'s `j`-th peer is `c` exactly when `d` is the peer of `c` on the way back. -/
theorem eq_peer_iff : ∀ (d c : Dev nD) (j : Fin 3), c = peer d j ↔ d = peer c (back j) := by decide

/-- A device and its three peers are all the devices. -/
theorem univ_peers : ∀ c : Dev nD, (Finset.univ : Finset (Dev nD)) = {c, peer c 0, peer c 1, peer c 2} := by decide
theorem peers_nodup : ∀ c : Dev nD, [c, peer c 0, peer c 1, peer c 2].Nodup := by decide
theorem mem_peers : ∀ c s : Dev nD, s ∈ [c, peer c 0, peer c 1, peer c 2] := by decide

/-- The addresses the kernel computes are its peers: for the three signals … -/
theorem sig_dev0 : ∀ c : Dev nD, (⟨k0_dev1 c, k0_dev1_lt c⟩ : Dev nD) = peer c 0 := by decide +kernel
theorem sig_dev1 : ∀ c : Dev nD, (⟨k0_dev2 c, k0_dev2_lt c⟩ : Dev nD) = peer c 1 := by decide +kernel
theorem sig_dev2 : ∀ c : Dev nD, (⟨k0_dev3 c, k0_dev3_lt c⟩ : Dev nD) = peer c 2 := by decide +kernel
/-- … and for the three copies. -/
theorem copy_dev0 : ∀ c : Dev nD, (⟨k0_dev4 c, k0_dev4_lt c⟩ : Dev nD) = peer c 0 := by decide +kernel
theorem copy_dev1 : ∀ c : Dev nD, (⟨k0_dev5 c, k0_dev5_lt c⟩ : Dev nD) = peer c 1 := by decide +kernel
theorem copy_dev2 : ∀ c : Dev nD, (⟨k0_dev6 c, k0_dev6_lt c⟩ : Dev nD) = peer c 2 := by decide +kernel

/-! ## The buffers -/

/-- The device's own block as it was staged, the result being assembled, the block being sent. -/
abbrev inM : Memref sig .tc .vmem S256x256 .bf16 := Memref.whole cc0_stg0_0
abbrev outM : Memref sig .tc .vmem S1024x256 .bf16 := Memref.whole cc0_stg1_0
abbrev comM : Memref sig .tc .vmem S256x256 .bf16 := Memref.whole cc0_scratch0

/-- Rows `256·s` to `256·s + 255` of the result. -/
abbrev rowM (s : Dev nD) : Memref sig .tc .vmem S256x256 .bf16 :=
  outM.slice (Rect.unit (s := S1024x256) (k0_off2 s) S256x256.size (k0_off2_inb s)) (fun _ => rfl)

/-- Row block `s` starts at row `256·s`, column 0. -/
theorem off2_row (s : Dev nD) : k0_off2 s 0 = 256 * s.val := congrFun (k0_off2_eq s) 0
theorem off2_col (s : Dev nD) : k0_off2 s 1 = 0 := congrFun (k0_off2_eq s) 1

/-- The buffer elements of row block `s`. -/
def rowSet (s : Dev nD) : Finset (cc0_stg1_0 : Ref sig .tc).ty.Idx := (rowM s).view.set

theorem mem_rowSet (s : Dev nD) (i : S1024x256.Idx) : i ∈ rowSet s ↔ (i 0).val / 256 = s.val := by
  unfold rowSet
  show i ∈ ((View.whole cc0_stg1_0).slice (Rect.unit (s := S1024x256) (k0_off2 s) S256x256.size (k0_off2_inb s))).set ↔ _
  rw [View.set_slice_whole, Rect.mem_set_unit]
  have h1 : (i 1).val < 256 := (i 1).isLt
  have r := off2_row s
  have l := off2_col s
  constructor
  · intro h
    have h0 : k0_off2 s 0 ≤ (i 0).val ∧ (i 0).val < k0_off2 s 0 + 256 := h 0
    omega
  · intro h a
    match a with
    | ⟨0, _⟩ => show k0_off2 s 0 ≤ (i 0).val ∧ (i 0).val < k0_off2 s 0 + 256; omega
    | ⟨1, _⟩ => show k0_off2 s 1 ≤ (i 1).val ∧ (i 1).val < k0_off2 s 1 + 256; omega

theorem rowSet_disjoint (s t : Dev nD) (h : s ≠ t) : Disjoint (rowSet s) (rowSet t) := by
  rw [Finset.disjoint_left]
  intro i hs ht
  exact h (Fin.ext (((mem_rowSet s i).mp hs).symm.trans ((mem_rowSet t i).mp ht)))

theorem rowSet_cover : Finset.univ.biUnion rowSet = Finset.univ := by
  ext i
  have h0 : ((i : S1024x256.Idx) 0).val < 1024 := ((i : S1024x256.Idx) 0).isLt
  simp only [Finset.mem_biUnion, Finset.mem_univ, true_and, iff_true]
  exact ⟨⟨((i : S1024x256.Idx) 0).val / 256, by show _ < 4; omega⟩, (mem_rowSet _ i).mpr rfl⟩

/-! ## The gathered array -/

variable {F : FTy → Type}

/-- From one block per device, the array of 1024 rows: row `r` is row `r mod 256` of block `r / 256`. -/
def gather (b : Dev nD → S256x256.Idx → Elt F .bf16) : S1024x256.Idx → Elt F .bf16 := fun i =>
  b ⟨(i 0).val / 256, by have h : (i 0).val < 1024 := (i 0).isLt; show _ < 4; omega⟩
    (fun | ⟨0, _⟩ => ⟨(i 0).val % 256, Nat.mod_lt _ (by decide)⟩ | ⟨1, _⟩ => ⟨(i 1).val, (i 1).isLt⟩)

theorem gather_at (b : Dev nD → S256x256.Idx → Elt F .bf16) (i : S1024x256.Idx) (s : Dev nD) (x : S256x256.Idx)
    (h0 : (i 0).val = 256 * s.val + (x 0).val) (h1 : (i 1).val = (x 1).val) : gather b i = b s x := by
  have hx : (x 0).val < 256 := (x 0).isLt
  have hs : (i 0).val / 256 = s.val := by omega
  have key : ∀ (t : Dev nD) (y : S256x256.Idx), t = s → y = x → b t y = b s x := by
    intro t y ht hy; rw [ht, hy]
  refine key _ _ (Fin.ext hs) ?_
  · funext a
    match a with
    | ⟨0, _⟩ => exact Fin.ext (by show (i 0).val % 256 = (x 0).val; omega)
    | ⟨1, _⟩ => exact Fin.ext h1

/-- Block `s` written over rows `256·s` onwards agrees there with the gathered array. -/
theorem write_row (b : Dev nD → S256x256.Idx → Elt F .bf16) (s : Dev nD) (f : (cc0_stg1_0 : Ref sig .tc).ty.Contents (Elt F)) :
    ∀ i ∈ (rowM s).view.set, (rowM s).view.write (Elt F) f (b s) Finset.univ i = gather b i := by
  intro i hi
  obtain ⟨x, -, rfl⟩ := Finset.mem_map.mp hi
  rw [View.write_emb_of_mem _ _ (Finset.mem_univ _)]
  refine ((gather_at b _ s x ?_ ?_).trans ?_).symm
  · refine (ValueKit.view_emb_slice_whole_unit_val cc0_stg1_0 (k0_off2 s) S256x256.size (k0_off2_inb s) x 0).trans ?_
    exact congrArg (· + (x 0).val) (off2_row s)
  · refine (ValueKit.view_emb_slice_whole_unit_val cc0_stg1_0 (k0_off2 s) S256x256.size (k0_off2_inb s) x 1).trans ?_
    exact (congrArg (· + (x 1).val) (off2_col s)).trans (Nat.zero_add _)
  · rfl

/-! ## The semaphores -/

/-- The semaphore the kernels meet on before the first copy. -/
abbrev barS : Sem sig := (SemArray.scalar (sig.barrier 0 rfl) : Sems sig S_).sem

/-- The semaphore of the `j`-th outgoing copy, and that of the copy arriving from device `s`. -/
def sendS (j : Fin 3) : DmaSem sig := ⟨2 + j.val, by have := j.isLt; show _ < 9; omega⟩
def recvS (s : Dev nD) : DmaSem sig := ⟨5 + s.val, by have h : s.val < 4 := s.isLt; show _ < 9; omega⟩

theorem send_sem0 : ((cc0_scratch1.slice (Rect.unit (s := S3) ![0] S1.size inb_S3_S1_0)).squeeze S_ squeezes_S1_S_).sem = sendS 0 := by decide +kernel
theorem send_sem1 : ((cc0_scratch1.slice (Rect.unit (s := S3) ![1] S1.size inb_S3_S1_1)).squeeze S_ squeezes_S1_S_).sem = sendS 1 := by decide +kernel
theorem send_sem2 : ((cc0_scratch1.slice (Rect.unit (s := S3) ![2] S1.size inb_S3_S1_2)).squeeze S_ squeezes_S1_S_).sem = sendS 2 := by decide +kernel

/-- A device's copies all arrive on the semaphore of its own number; -/
theorem recv_sem : ∀ c : Dev nD, ((cc0_scratch2.slice (Rect.unit (s := S4) (k0_off1 c) S1.size (k0_off1_inb c))).squeeze S_ squeezes_S1_S_).sem = recvS c := by
  decide +kernel
/-- and it waits on the semaphores of its peers' numbers. -/
theorem wait_sem0 : ∀ c : Dev nD, ((cc0_scratch2.slice (Rect.unit (s := S4) (k0_off4 c 2#32) S1.size (k0_off4_inb c 1))).squeeze S_ squeezes_S1_S_).sem = recvS (peer c 0) := by
  decide +kernel
theorem wait_sem1 : ∀ c : Dev nD, ((cc0_scratch2.slice (Rect.unit (s := S4) (k0_off4 c 1#32) S1.size (k0_off4_inb c 0))).squeeze S_ squeezes_S1_S_).sem = recvS (peer c 1) := by
  decide +kernel
theorem wait_sem2 : ∀ c : Dev nD, ((cc0_scratch2.slice (Rect.unit (s := S4) (k0_off4 c 3#32) S1.size (k0_off4_inb c 2))).squeeze S_ squeezes_S1_S_).sem = recvS (peer c 2) := by
  decide +kernel

/-! ## Whole-buffer reads and writes -/

theorem off_zero : (![0, 0] : Fin 2 → Nat) = fun _ => 0 := funext fun a => by fin_cases a <;> rfl

/-- Loading a block from its first element on reads all of it. -/
theorem load_in (f : (cc0_stg0_0 : Ref sig .tc).ty.Contents (Elt F)) :
    inM.view.readAt (Elt F) (Rect.unit (s := S256x256) ![0, 0] S256x256.size inb_S256x256_S256x256_0_0).toLoadRect f = f :=
  Memref.readAt_unit_zero (Elt F) cc0_stg0_0 off_zero _ f
theorem load_com (f : (cc0_scratch0 : Ref sig .tc).ty.Contents (Elt F)) :
    comM.view.readAt (Elt F) (Rect.unit (s := S256x256) ![0, 0] S256x256.size inb_S256x256_S256x256_0_0).toLoadRect f = f :=
  Memref.readAt_unit_zero (Elt F) cc0_scratch0 off_zero _ f
/-- Storing a block from the first element on replaces all of it. -/
theorem store_com (f w : (cc0_scratch0 : Ref sig .tc).ty.Contents (Elt F)) :
    (comM.access (Rect.unit (s := S256x256) ![0, 0] S256x256.size inb_S256x256_S256x256_0_0) : View sig .tc _ _ _).write (Elt F) f w Finset.univ = w :=
  Memref.write_access_unit_zero_univ (Elt F) cc0_scratch0 off_zero _ f w

/-- The value stored for sending is the value loaded, reshaped to its own shape. -/
theorem payload_id [FloatOps F] (v : Vec F S256x256 .bf16) : k0_pay1 v = v := by
  show shapeCast S256x256 (shapeCast S256x256 v shapeCasts_S256x256_S256x256) shapeCasts_S256x256_S256x256 = v
  rw [shapeCast_self, shapeCast_self]

/-- The rows the kernel stores itself are row block `c`. -/
theorem off3_off2 (c : Dev nD) : k0_off3 c = k0_off2 c := by rw [k0_off3_eq, k0_off2_eq]

/-- Reading them touches the elements of row block `c` only, … -/
theorem own_set (c : Dev nD) :
    (outM.access (Rect.unit (s := S1024x256) (k0_off3 c) S256x256.size (k0_off3_inb c)) : View sig .tc _ _ _).set = (rowM c).view.set := by
  have h : ∀ (o : Fin 2 → ℕ) (_ : o = k0_off2 c) (hi : ∀ a, o a + S256x256.size a ≤ S1024x256.size a),
      ((View.whole cc0_stg1_0).slice (Rect.unit (s := S1024x256) o S256x256.size hi)).set = (rowM c).view.set := by
    intro o ho hi; subst ho; rfl
  exact h _ (off3_off2 c) (k0_off3_inb c)

/-- … and storing them writes row block `c`. -/
theorem own_write (c : Dev nD) (f : (cc0_stg1_0 : Ref sig .tc).ty.Contents (Elt F)) (w : S256x256.Idx → Elt F .bf16) :
    (outM.access (Rect.unit (s := S1024x256) (k0_off3 c) S256x256.size (k0_off3_inb c)) : View sig .tc _ _ _).write (Elt F) f w Finset.univ
      = (rowM c).view.write (Elt F) f w Finset.univ := by
  have h : ∀ (o : Fin 2 → ℕ) (_ : o = k0_off2 c) (hi : ∀ a, o a + S256x256.size a ≤ S1024x256.size a),
      ((View.whole cc0_stg1_0).slice (Rect.unit (s := S1024x256) o S256x256.size hi)).write (Elt F) f w Finset.univ
        = (rowM c).view.write (Elt F) f w Finset.univ := by
    intro o ho hi; subst ho; rfl
  exact h _ (off3_off2 c) (k0_off3_inb c)

end Cert.KernelIdeal.Gather

end
-- ==== Proof.ProtocolKernelIdeal.lean ====
/-
# Who owes what to whom

Every device meets its three peers on the barrier semaphore, then copies its block into each of
them, and waits for theirs. The resources that change hands with each semaphore unit are fixed here:

* a signal on device `c`'s barrier from its peer hands `c` the rows of that peer's result array that
  `c` is going to fill;
* the arrival of the copy from device `s` hands `c` row block `s` of its result, filled;
* the completion of an outgoing copy hands back the part of the sent block's ownership it borrowed.

Each of these happens once. The module also fixes what every device owes when it starts, the order
in which waits may depend on one another, and the claims the body has to meet.
-/
module

public import proofs.«01_k».proof.Proof.RowsKernelIdeal

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

/-- The ghost state: the launch's own, and the exchange's, whose duties are numbered by peer. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The state a run starts from: any memory, all semaphores at zero. -/
def s₀ : MemSt nD τ sig (Elt F) := ⟨m, fun _ => 0, ρ⟩

/-! ## Cells -/

abbrev barCell (c : Dev nD) : GSem nD τ sig := ((c : Thread nD τ), .reg barS)
abbrev sendCell (c : Dev nD) (j : Fin 3) : GSem nD τ sig := ((c : Thread nD τ), .dma (sendS j))
abbrev recvCell (c s : Dev nD) : GSem nD τ sig := ((c : Thread nD τ), .dma (recvS s))

/-- The copy semaphores of one device: three for sending, four for receiving. -/
abbrev Own : Type := Fin 3 ⊕ Dev nD
/-- All semaphores of one device the exchange uses: the barrier's and those. -/
abbrev Cell : Type := Unit ⊕ Own

abbrev ownSem : Own → SemLoc sig
  | .inl j => .dma (sendS j)
  | .inr s => .dma (recvS s)
abbrev semOf : Cell → SemLoc sig
  | .inl _ => .reg barS
  | .inr o => ownSem o
abbrev cellAt (x : Dev nD × Cell) : GSem nD τ sig := ((x.1 : Thread nD τ), semOf x.2)

abbrev barIx : Cell := .inl ()
abbrev sendIx (j : Fin 3) : Cell := .inr (.inl j)
abbrev recvIx (s : Dev nD) : Cell := .inr (.inr s)

/-- What a semaphore is for. -/
inductive Role
  | meet
  | send (j : Fin 3)
  | recv (s : Dev nD)
  | other

def roleOf : SemLoc sig → Role
  | .reg _ => .meet
  | .dma q =>
    if q.val < 2 then .other
    else if h : q.val < 5 then .send ⟨q.val - 2, by omega⟩
    else .recv ⟨q.val - 5, by have hq : q.val < 9 := q.isLt; show _ < 4; omega⟩

theorem role_bar : roleOf (.reg barS) = .meet := rfl
theorem role_send (j : Fin 3) : roleOf (.dma (sendS j)) = .send j := by fin_cases j <;> rfl
theorem role_recv (s : Dev nD) : roleOf (.dma (recvS s)) = .recv s := by fin_cases s <;> rfl

/-- The units one copied block puts on a semaphore. -/
abbrev units : ℕ := comM.view.dmaCredit
theorem units_pos : 0 < units := View.dmaCredit_pos _ (by decide)

/-! ## What changes hands -/

/-- Device `c`'s block, as the launch stages it. -/
def blockOf (c : Dev nD) : (cc0_stg0_0 : Ref sig .tc).ty.Contents (Elt F) :=
  (win0_0.blk (0 : Fin 1)).view.read (Elt F) ((s₀ m ρ).mem ((c : Thread nD τ).loc main_arg0))

/-- The array every device ends with. -/
def gathered : (cc0_stg1_0 : Ref sig .tc).ty.Contents (Elt F) := gather (blockOf m ρ)

/-- Device `c` holds row block `s` of its result, containing what `f` has there. -/
def rowPts (c s : Dev nD) (f : Buf (Elt F) ((rowM s).view.loc (c : Thread nD τ))) : sProp 𝕄 :=
  (rowM s).view.loc (c : Thread nD τ) ↦[(rowM s).view.set]{fullShare} f
/-- Device `c` holds a share of the block it sends. -/
def comPts (c : Dev nD) (q : PosShare TreeShare) (f : Buf (Elt F) (comM.view.loc (c : Thread nD τ))) : sProp 𝕄 :=
  comM.view.loc (c : Thread nD τ) ↦[comM.view.set]{q} f

/-- The share lent to the `j`-th copy, and the share kept. -/
def lent : Fin 3 → PosShare TreeShare
  | 0 => fullShare.left.left
  | 1 => fullShare.left.right
  | 2 => fullShare.right.left
def kept : PosShare TreeShare := fullShare.right.right

instance rowPts_storable (c s : Dev nD) (f) : BI.Storable (upEmb : UEmb _ 𝕄) (rowPts (F := F) c s f) := by unfold rowPts; infer_instance
instance comPts_storable (c : Dev nD) (q f) : BI.Storable (upEmb : UEmb _ 𝕄) (comPts (F := F) c q f) := by unfold comPts; infer_instance

/-- The four shares of the sent block make up the whole, and the other way round. -/
theorem com_shares (c : Dev nD) (f : Buf (Elt F) (comM.view.loc (c : Thread nD τ))) :
    (comPts c fullShare f : sProp 𝕄) = iprop((comPts c (lent 0) f ∗ comPts c (lent 1) f) ∗ (comPts c (lent 2) f ∗ comPts c kept f)) := by
  have cut : ∀ q : PosShare TreeShare, (comPts c q f : sProp 𝕄) = iprop(comPts c q.left f ∗ comPts c q.right f) := fun q =>
    BI.Entails.antisymm (pointsTo_share (PosShare.mem_left_op_right q)).1 (pointsTo_share (PosShare.mem_left_op_right q)).2
  rw [cut fullShare, cut fullShare.left, cut fullShare.right]; rfl

theorem com_whole (c : Dev nD) (f : Buf (Elt F) ((c : Thread nD τ).loc cc0_scratch0)) :
    (comPts c fullShare f : sProp 𝕄) = (((c : Thread nD τ).loc cc0_scratch0) ↦{fullShare} f) := by
  unfold comPts; rw [View.set_whole]

/-- The result array is its four row blocks: the device's own and one for each peer. -/
theorem out_rows (c : Dev nD) (f : Buf (Elt F) ((c : Thread nD τ).loc cc0_stg1_0)) :
    ((((c : Thread nD τ).loc cc0_stg1_0) ↦{fullShare} f) : sProp 𝕄)
      = iprop(rowPts c c f ∗ rowPts c (peer c 0) f ∗ rowPts c (peer c 1) f ∗ rowPts c (peer c 2) f) := by
  have h : ((((c : Thread nD τ).loc cc0_stg1_0) ↦{fullShare} f) : sProp 𝕄)
      = bigSep Finset.univ fun s : Dev nD => (((c : Thread nD τ).loc cc0_stg1_0) ↦[rowSet s]{fullShare} f) := by
    refine Eq.trans ?_ (pointsTo_biUnion (ℓ := (c : Thread nD τ).loc cc0_stg1_0) Finset.univ rowSet (fun s _ t _ h => rowSet_disjoint s t h))
    rw [rowSet_cover]
  rw [h, bigSep_univ_eq_bigSepL [c, peer c 0, peer c 1, peer c 2] (by rw [univ_peers c]; simp) (peers_nodup c)]
  rfl

/-- Row block `s` with block `s` written in it is row block `s` of the gathered array. -/
theorem row_written (c s : Dev nD) (f : Buf (Elt F) ((rowM s).view.loc (c : Thread nD τ))) :
    (rowPts c s ((rowM s).view.write (Elt F) f (blockOf m ρ s) Finset.univ) : sProp 𝕄) = rowPts c s (gathered m ρ) :=
  pointsTo_congr (write_row (blockOf m ρ) s f)

/-! ## The schedule -/

/-- What a signal from its `j`-th peer brings device `c`: the rows of the peer's result that `c` fills. -/
def meetPay (c : Dev nD) (j : Fin 3) : sProp 𝕄 := iprop(∃ f, rowPts (peer c j) c f)

instance meetPay_storable (c : Dev nD) (j) : BI.Storable (upEmb : UEmb _ 𝕄) (meetPay (F := F) c j) := by unfold meetPay; infer_instance

def sched : Rounds.Schedule (GSem nD τ sig) (Fin 3) 𝕄 where
  duties g r :=
    if r = 0 ∧ g.1.2 = .tc then
      match roleOf g.2 with
      | .meet => Finset.univ
      | .send _ => {0}
      | .recv s => if s = g.1.1 then ∅ else {0}
      | .other => ∅
    else ∅
  unitless _ := False
  amount g _ _ := match roleOf g.2 with
    | .meet => 1
    | _ => units
  payload g _ d := match roleOf g.2 with
    | .meet => meetPay g.1.1 d
    | .send j => comPts g.1.1 (lent j) (blockOf m ρ g.1.1)
    | .recv s => rowPts g.1.1 s (gathered m ρ)
    | .other => iprop(emp)
  amount_pos g _ _ _ := by
    cases roleOf g.2 with
    | meet => exact Nat.one_pos
    | _ => exact units_pos

instance sched_storable (g : GSem nD τ sig) (r : ℕ) (d : Fin 3) : BI.Storable (upEmb : UEmb _ 𝕄) ((sched (F := F) m ρ).payload g r d) := by
  show BI.Storable upEmb (match roleOf g.2 with
    | .meet => meetPay g.1.1 d
    | .send j => comPts g.1.1 (lent j) (blockOf m ρ g.1.1)
    | .recv s => rowPts g.1.1 s (gathered m ρ)
    | .other => iprop(emp))
  cases roleOf g.2 <;> dsimp only <;> infer_instance

section Sched
variable (c : Dev nD)

theorem duties_bar : (sched (F := F) m ρ).duties (barCell c) 0 = Finset.univ := by
  dsimp only [sched]; rw [if_pos ⟨rfl, rfl⟩, role_bar]
theorem duties_send (j : Fin 3) : (sched (F := F) m ρ).duties (sendCell c j) 0 = {0} := by
  dsimp only [sched]; rw [if_pos ⟨rfl, rfl⟩, role_send]
theorem duties_recv (s : Dev nD) (h : s ≠ c) : (sched (F := F) m ρ).duties (recvCell c s) 0 = {0} := by
  dsimp only [sched]; rw [if_pos ⟨rfl, rfl⟩, role_recv]; exact if_neg h
/-- Nothing ever arrives on a device's own number; -/
theorem duties_self : ∀ r, 0 ≤ r → (sched (F := F) m ρ).duties (recvCell c c) r = ∅ := fun r _ => by
  dsimp only [sched]
  split
  · rw [role_recv]; exact if_pos rfl
  · rfl
/-- and nothing happens twice. -/
theorem duties_later (g : GSem nD τ sig) : ∀ r, 0 + 1 ≤ r → (sched (F := F) m ρ).duties g r = ∅ := fun r hr => by
  dsimp only [sched]; rw [if_neg fun h => by omega]

theorem amount_bar (d : Fin 3) : (sched (F := F) m ρ).amount (barCell c) 0 d = 1 := by dsimp only [sched]; rw [role_bar]
theorem amount_send (j d : Fin 3) : (sched (F := F) m ρ).amount (sendCell c j) 0 d = units := by dsimp only [sched]; rw [role_send]
theorem amount_recv (s : Dev nD) (d : Fin 3) : (sched (F := F) m ρ).amount (recvCell c s) 0 d = units := by dsimp only [sched]; rw [role_recv]

theorem payload_bar (d : Fin 3) : (sched (F := F) m ρ).payload (barCell c) 0 d = meetPay c d := by dsimp only [sched]; rw [role_bar]
theorem payload_send (j d : Fin 3) : (sched (F := F) m ρ).payload (sendCell c j) 0 d = comPts c (lent j) (blockOf m ρ c) := by
  dsimp only [sched]; rw [role_send]
theorem payload_recv (s : Dev nD) (d : Fin 3) : (sched (F := F) m ρ).payload (recvCell c s) 0 d = rowPts c s (gathered m ρ) := by
  dsimp only [sched]; rw [role_recv]

theorem expect_bar : (sched (F := F) m ρ).expect (barCell c) 0 = 3 := by
  unfold Schedule.expect Schedule.amountOf
  rw [duties_bar, Finset.sum_congr rfl fun d _ => amount_bar m ρ c d]; rfl
theorem expect_send (j : Fin 3) : (sched (F := F) m ρ).expect (sendCell c j) 0 = units := by
  unfold Schedule.expect Schedule.amountOf; rw [duties_send, Finset.sum_singleton, amount_send]
theorem expect_recv (s : Dev nD) (h : s ≠ c) : (sched (F := F) m ρ).expect (recvCell c s) 0 = units := by
  unfold Schedule.expect Schedule.amountOf; rw [duties_recv m ρ c s h, Finset.sum_singleton, amount_recv]

theorem fin3_sep (Φ : Fin 3 → sProp 𝕄) : bigSep Finset.univ Φ = iprop(Φ 0 ∗ Φ 1 ∗ Φ 2) :=
  bigSep_univ_eq_bigSepL [0, 1, 2] (by decide) (by decide) Φ

/-- All that the barrier wait brings: from each peer, the rows to fill there. -/
theorem rest_bar : bigSep ((sched (F := F) m ρ).duties (barCell c) 0 \ ∅) (fun d => (sched (F := F) m ρ).payload (barCell c) 0 d)
    = iprop(meetPay c 0 ∗ meetPay c 1 ∗ meetPay c 2) := by
  rw [Finset.sdiff_empty, duties_bar, fin3_sep, payload_bar, payload_bar, payload_bar]
theorem rest_send (j : Fin 3) : bigSep ((sched (F := F) m ρ).duties (sendCell c j) 0 \ ∅) (fun d => (sched (F := F) m ρ).payload (sendCell c j) 0 d)
    = comPts c (lent j) (blockOf m ρ c) := by
  rw [Finset.sdiff_empty, duties_send, bigSep_singleton, payload_send]
theorem rest_recv (s : Dev nD) (h : s ≠ c) :
    bigSep ((sched (F := F) m ρ).duties (recvCell c s) 0 \ ∅) (fun d => (sched (F := F) m ρ).payload (recvCell c s) 0 d)
    = rowPts c s (gathered m ρ) := by
  rw [Finset.sdiff_empty, duties_recv m ρ c s h, bigSep_singleton, payload_recv]

end Sched

/-! ## Debts and their order -/

/-- Device `c` owes its `j`-th peer one block on the peer's semaphore for arrivals from `c`, … -/
def oweRow (c : Dev nD) (j : Fin 3) : CellTallies nD τ sig Unit := tallyAt (recvCell (peer c j) c) () units
/-- … and one unit on the peer's barrier. -/
def oweBar (c : Dev nD) (j : Fin 3) : CellTallies nD τ sig Unit := tallyAt (barCell (peer c j)) () 1

/-- The three blocks owed, summed so that the first copy discharges the last summand; -/
def oweRows (c : Dev nD) : CellTallies nD τ sig Unit := ((0 + oweRow c 2) + oweRow c 1) + oweRow c 0
/-- and everything owed at the start, likewise with the signals. -/
def oweAll (c : Dev nD) : CellTallies nD τ sig Unit := ((oweRows c + oweBar c 2) + oweBar c 1) + oweBar c 0

theorem tally_pos {g : GSem nD τ sig} {u : Unit} {g' : GSem nD τ sig} {n : ℕ}
    (h : 0 < (tallyAt g' () n : CellTallies nD τ sig Unit) g u) : g = g' := by
  rw [tallyAt_apply] at h
  by_contra hn
  rw [if_neg fun h' => hn h'.1] at h
  exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h; omega

theorem oweRows_pos {c : Dev nD} {g : GSem nD τ sig} {u : Unit} (h : 0 < oweRows c g u) : ∃ j, g = recvCell (peer c j) c := by
  unfold oweRows at h
  rcases add_pos_or h with h | h
  · rcases add_pos_or h with h | h
    · rcases add_pos_or h with h | h
      · exact absurd h (Nat.lt_irrefl 0)
      · exact ⟨2, tally_pos h⟩
    · exact ⟨1, tally_pos h⟩
  · exact ⟨0, tally_pos h⟩

theorem oweAll_pos {c : Dev nD} {g : GSem nD τ sig} {u : Unit} (h : 0 < oweAll c g u) :
    (∃ j, g = recvCell (peer c j) c) ∨ ∃ j, g = barCell (peer c j) := by
  unfold oweAll at h
  rcases add_pos_or h with h | h
  · rcases add_pos_or h with h | h
    · rcases add_pos_or h with h | h
      · exact .inl (oweRows_pos h)
      · exact .inr ⟨2, tally_pos h⟩
    · exact .inr ⟨1, tally_pos h⟩
  · exact .inr ⟨0, tally_pos h⟩

def levels (g : GSem nD τ sig) : Finset Unit := if g.1.2 = .tc then {()} else ∅
/-- A wait may only depend on debts of a higher level: meeting comes before arriving. -/
def level (g : GSem nD τ sig) (_ : Unit) : ℕ := match roleOf g.2 with
  | .meet => 1
  | .recv _ => 2
  | _ => 0

theorem levels_other (g : GSem nD τ sig) (h : g.1.2 ≠ .tc) : levels g = ∅ := if_neg h
theorem mem_levels (c : Dev nD) (sm : SemLoc sig) : () ∈ levels ((c : Thread nD τ), sm) := by
  unfold levels; rw [if_pos rfl]; exact Finset.mem_singleton_self _
theorem level_bar (c : Dev nD) : level (barCell c) () = 1 := by unfold level; rw [role_bar]
theorem level_recv (c s : Dev nD) : level (recvCell c s) () = 2 := by unfold level; rw [role_recv]

/-- The waits of the staging copies depend on nothing owed. -/
theorem mayWait_stage (c : Dev nD) (q : DmaSem sig) (hq : q.val < 2) (O : CellTallies nD τ sig Unit) (hO : O = oweAll c ∨ O = 0) :
    (levAts levels level : sProp 𝕄) ⊢ MayWait (c : Thread nD τ) (.dma q) () O := by
  have hl : level ((c : Thread nD τ), SemLoc.dma q) () = 0 := by
    unfold level; rw [show roleOf (SemLoc.dma q) = .other from if_pos hq]
  rcases hO with rfl | rfl
  · refine MayOwe.of_cut (L := levels) (lev := level) 0 (fun p hp => by rw [Finset.mem_singleton.mp hp]; exact mem_levels c _)
      (fun g u hg => by rcases oweAll_pos hg with ⟨j, rfl⟩ | ⟨j, rfl⟩ <;> exact mem_levels _ _)
      (fun p hp => by rw [Finset.mem_singleton.mp hp]; exact le_of_eq hl)
      (fun g u hg => by
        rcases oweAll_pos hg with ⟨j, rfl⟩ | ⟨j, rfl⟩
        · exact lt_of_lt_of_eq (by decide) (level_recv _ _).symm
        · exact lt_of_lt_of_eq (by decide) (level_bar _).symm)
  · rw [MayWait_zero]; iintro -; iempintro

/-- When a device waits on its barrier it owes only arrivals. -/
theorem mayWait_bar (c : Dev nD) : (levAts levels level : sProp 𝕄) ⊢ MayWait (c : Thread nD τ) (.reg barS) () (oweRows c) :=
  MayOwe.of_cut (L := levels) (lev := level) 1 (fun p hp => by rw [Finset.mem_singleton.mp hp]; exact mem_levels c _)
    (fun g u hg => by obtain ⟨j, rfl⟩ := oweRows_pos hg; exact mem_levels _ _)
    (fun p hp => by rw [Finset.mem_singleton.mp hp]; exact le_of_eq (level_bar c))
    (fun g u hg => by obtain ⟨j, rfl⟩ := oweRows_pos hg; exact lt_of_lt_of_eq (by decide) (level_recv _ _).symm)

/-! ## A device's holdings before and after the body -/

/-- Everyone's cells are in use, under the names `K`, and have reached their only round. -/
def records (K : Dev nD × Cell → ℕ) : sProp 𝕄 :=
  iprop((bigSep Finset.univ fun x : Dev nD × Cell => cellInv EX (sched m ρ) (K x) (cellAt x))
    ∗ bigSep Finset.univ fun x : Dev nD × Cell => reached EX (cellAt x) 0)

instance records_persistent (K : Dev nD × Cell → ℕ) : BI.Persistent (records m ρ K) := by unfold records; infer_instance

theorem inv_at (K : Dev nD × Cell → ℕ) (x : Dev nD × Cell) : records (F := F) m ρ K ⊢ cellInv EX (sched m ρ) (K x) (cellAt x) := by
  have h : (bigSep Finset.univ fun x : Dev nD × Cell => (cellInv EX (sched (F := F) m ρ) (K x) (cellAt x) : sProp 𝕄))
      ⊢ cellInv EX (sched m ρ) (K x) (cellAt x) := bigSep_elim (Finset.mem_univ x)
  unfold records
  iintro ⟨H, -⟩
  iapply h; iexact H
theorem reached_at (K : Dev nD × Cell → ℕ) (x : Dev nD × Cell) : records (F := F) m ρ K ⊢ reached EX (cellAt x) 0 := by
  have h : (bigSep Finset.univ fun x : Dev nD × Cell => (reached EX (cellAt x) 0 : sProp 𝕄)) ⊢ reached EX (cellAt x) 0 :=
    bigSep_elim (Finset.mem_univ x)
  unfold records
  iintro ⟨-, H⟩
  iapply h; iexact H

/-- The three kinds of thing a device does, each once per peer: signal, copy, and hear that the copy left. -/
abbrev Act : Type := Fin 3 ⊕ (Fin 3 ⊕ Fin 3)

/-- The duty each of them discharges. -/
abbrev dutyOf (x : Dev nD × Act) : GSem nD τ sig × ℕ × Fin 3 := match x.2 with
  | .inl j => (barCell (peer x.1 j), 0, back j)
  | .inr (.inl j) => (recvCell (peer x.1 j) x.1, 0, 0)
  | .inr (.inr j) => (sendCell x.1 j, 0, 0)

abbrev tok (x : Dev nD × Act) : sProp 𝕄 := dutyTok EX (dutyOf x).1 (dutyOf x).2.1 (dutyOf x).2.2

/-- Device `c`'s place at its eight cells, and the duties it is to discharge. -/
def mine (c : Dev nD) : sProp 𝕄 :=
  iprop((bigSep Finset.univ fun k : Cell => atPos EX (cellAt (c, k)) 0 ∅ 0) ∗ bigSep Finset.univ fun a : Act => tok (c, a))

def ghost (K : Dev nD × Cell → ℕ) (c : Dev nD) : sProp 𝕄 := iprop(records m ρ K ∗ mine c)

/-- The credit a device starts with: three meetings and one block from each peer. -/
def creds (c : Dev nD) : sProp 𝕄 :=
  iprop(cred (tallyAt (barCell c) () 3) ∗ bigSep Finset.univ fun j : Fin 3 => cred (tallyAt (recvCell c (peer c j)) () units))

def start (c : Dev nD) : sProp 𝕄 := iprop((∃ K, ghost m ρ K c) ∗ creds c ∗ levAts levels level)

def Φ₀ (c : Dev nD) : sProp 𝕄 := iprop(start m ρ c ∗ ∃ f, comPts c fullShare f)
/-- After the body the sent block is whole again and every semaphore is at zero. -/
def Φ₁ (c : Dev nD) : sProp 𝕄 :=
  iprop(comPts c fullShare (blockOf m ρ c) ∗ bigSep Finset.univ fun k : Cell => semVal (cellAt (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => blockOf m ρ c
    | ⟨1, _⟩ => gathered m ρ
  Φ t := match t with
    | ⟨0, _⟩ => Φ₀ m ρ c
    | ⟨_ + 1, _⟩ => Φ₁ m ρ c
  q _ := fullShare
  owed t := match t with
    | ⟨0, _⟩ => oweAll c
    | ⟨_ + 1, _⟩ => 0

abbrev 𝒱₀ : Variants := Variants.none

end Cert.KernelIdeal.Gather

end
-- ==== Proof.StepsKernelIdeal.lean ====
/-
# The steps of the exchange

One rule for each kind of step the kernel takes towards its `j`-th peer: signal it, copy the block to
it, wait for its block, wait for the own copy to have left; and one for the meeting at the barrier.
-/
module

public import proofs.«01_k».proof.Proof.ProtocolKernelIdeal

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-- Device `c` owes `O`, whatever it has waited on. -/
def debt (c : Dev nD) (O : CellTallies nD τ sig Unit) : sProp 𝕄 := iprop(∃ W : Waits sig Unit, owes (c : Thread nD τ) O W)

/-- Signalling the `j`-th peer hands it the rows it is going to fill and discharges one barrier unit. -/
theorem step_signal {α : Type} {Q : α → sProp 𝕄} {k : PUnit → Prog (TpuEff nD τ sig (Elt F) Λ₀ .tc) α}
    (c : Dev nD) (j : Fin 3) (n : Dev nD) (hn : n = peer c j) (O : CellTallies nD τ sig Unit)
    (f : Buf (Elt F) ((rowM (peer c j)).view.loc (c : Thread nD τ))) :
    iprop(records m ρ K ∗ debt c (O + oweBar c j) ∗ tok (c, .inl j) ∗ rowPts c (peer c j) f)
      ⊢ iprop((debt c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS (1#32 : BitVec 32).toInt) k) Q) := by
  subst hn
  rw [show (1#32 : BitVec 32).toInt = ((1 : ℕ) : ℤ) from by decide]
  unfold debt
  iintro ⟨#HR, ⟨%W, HO⟩, Ht, Hrow⟩ Hk
  iapply (Rounds.wp_signal 𝒱₀ EX (sched m ρ) (c : Thread nD τ) none (dst := (peer c j : Thread nD τ)) (κ := K (peer c j, barIx))
      (d := back j) (by rw [duties_bar]; exact Finset.mem_univ _) (amount_bar m ρ (peer c j) (back j)) () O rfl) $$ [HO Ht Hrow]
  · isplitr; · iapply (inv_at m ρ K (peer c j, barIx)); iexact HR
    isplitl [HO]; · iexact HO
    isplitl [Ht]; · iexact Ht
    isplitl [Hrow]
    · rw [payload_bar]; unfold meetPay; rw [peer_back]; iexists f; iexact Hrow
    iapply (reached_at m ρ K (peer c j, barIx)); iexact HR
  iintro HO
  iapply Hk
  iexists W; iexact HO

/-- The meeting: the barrier's three units bring the rows to fill at each peer, and the barrier is left at zero. -/
theorem step_meet {α : Type} {Q : α → sProp 𝕄} {k : PUnit → Prog (TpuEff nD τ sig (Elt F) Λ₀ .tc) α}
    (c : Dev nD) :
    iprop(records m ρ K ∗ levAts levels level ∗ debt c (oweRows c) ∗ cred (tallyAt (barCell c) () 3) ∗ atPos EX (barCell c) 0 ∅ 0)
      ⊢ iprop(((debt c (oweRows c) ∗ semVal (barCell c) 0 ∗ meetPay c 0 ∗ meetPay c 1 ∗ meetPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32 : BitVec 32).toInt) k) Q) := by
  rw [show (3#32 : BitVec 32).toInt = ((3 : ℕ) : ℤ) from by decide]
  unfold debt
  iintro ⟨#HR, #Hlev, ⟨%W, HO⟩, Hc, Hat⟩ Hk
  iapply (Rounds.wp_wait_rest_token 𝒱₀ EX (sched m ρ) (c : Thread nD τ) none (κ := K (c, barIx))
      (wpE_semWait_eq 𝒱₀ (c : Thread nD τ) none Set.univ) (Set.mem_univ _) () (O := oweRows c) (W := W) (R := 0) (m := 0) (T := ∅)
      (by rw [expect_bar])) $$ [Hc HO Hat]
  · isplitr; · iapply (inv_at m ρ K (c, barIx)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close EX (sched m ρ) (Set.mem_univ (K (c, barIx))) (fun h => h) (R := 0 + 1) (duties_later m ρ (barCell c))) $$ [Hat] with Hz
  · isplitr; · iapply (inv_at m ρ K (c, barIx)); iexact HR
    iexact Hat
  iapply Hk
  isplitl [HO]; · iexists _; iexact HO
  isplitl [Hz]; · iexact Hz
  iexact Hp

/-- Copying the block to the `j`-th peer lends it a share of the block and hands over the peer's rows; it discharges the
    block owed and leaves the credit for hearing that the copy has left. -/
theorem step_copy {α : Type} {Q : α → sProp 𝕄} {k : PUnit → Prog (TpuEff nD τ sig (Elt F) Λ₀ .tc) α}
    (c : Dev nD) (j : Fin 3) (n : Dev nD) (hn : n = peer c j) (sS sR : DmaSem sig) (hS : sS = sendS j) (hR : sR = recvS c)
    {hsc : (rowM c : Memref sig (Dev.tc n : Thread nD τ).2.kind .vmem S256x256 .bf16).view.ref.isScScratch = false}
    {hsrc : (comM : Memref sig .tc .vmem S256x256 .bf16).view.WordExact} {hdst : (rowM c).view.WordExact}
    {hsem : DmaTarget.Typed .vmem (.dma sR) (.remote (Dev.tc n : Thread nD τ) (rowM c) (.dma sS) hsc)}
    (O : CellTallies nD τ sig Unit) (f : Buf (Elt F) ((rowM c).view.loc (peer c j : Thread nD τ))) :
    iprop(records m ρ K ∗ comPts c (lent j) (blockOf m ρ c) ∗ rowPts (peer c j) c f ∗ debt c (O + oweRow c j)
        ∗ tok (c, .inr (.inr j)) ∗ tok (c, .inr (.inl j)))
      ⊢ iprop(((cred (tallyAt (sendCell c j) () units) ∗ debt c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma comM (.remote (Dev.tc n : Thread nD τ) (rowM c) (.dma sS) hsc) (.dma sR) hsrc hdst hsem) k) Q) := by
  subst hn hS hR
  unfold debt
  iintro ⟨#HR, Hcom, Hrow, ⟨%W, HO⟩, HtS, HtR⟩ Hk
  unfold comPts rowPts
  iapply (Rounds.wp_send_pointsTo 𝒱₀ EX (sched m ρ) (c : Thread nD τ) none (κ₁ := K (c, sendIx j)) (κ₂ := K (peer c j, recvIx c))
      (r₁ := 0) (r₂ := 0) (d₁ := 0) (d₂ := 0) (fd := f)
      (by rw [duties_send]; exact Finset.mem_singleton_self _)
      (by rw [duties_recv m ρ (peer c j) c (peer_ne c j).symm]; exact Finset.mem_singleton_self _)
      () () units rfl (amount_send m ρ c j 0) (amount_recv m ρ (peer c j) c 0) O rfl (W := W)
      (by rw [payload_send]; unfold comPts; exact BI.Entails.refl _)
      (by
        rw [payload_recv, ← row_written m ρ (peer c j) c f]
        unfold rowPts
        rw [show comM.view.read (Elt F) (blockOf m ρ c) = blockOf m ρ c from View.read_whole _ _])) $$ [Hcom Hrow HO HtS HtR]
  · isplitr; · iapply (inv_at m ρ K (c, sendIx j)); iexact HR
    isplitr; · iapply (inv_at m ρ K (peer c j, recvIx c)); iexact HR
    isplitl [Hcom]; · iexact Hcom
    isplitl [Hrow]; · iexact Hrow
    isplitl [HO]; · iexact HO
    isplitl [HtS]; · iexact HtS
    isplitr; · iapply (reached_at m ρ K (c, sendIx j)); iexact HR
    isplitl [HtR]; · iexact HtR
    iapply (reached_at m ρ K (peer c j, recvIx c)); iexact HR
  iintro ⟨Hc, HO⟩
  iapply Hk
  isplitl [Hc]; · iexact Hc
  iexists W; iexact HO

/-- Waiting for the `j`-th peer's block brings the peer's rows, filled, and leaves the semaphore at zero. -/
theorem step_arrive {α : Type} {Q : α → sProp 𝕄} {k : PUnit → Prog (TpuEff nD τ sig (Elt F) Λ₀ .tc) α}
    (c : Dev nD) (j : Fin 3) (sR : DmaSem sig) (hR : sR = recvS (peer c j)) {sp sp' : Space} {s s' : Shape} {e e' : EltTy}
    {src : Memref sig .tc sp' s' e'} {dst : Memref sig .tc sp s e} {hsrc : src.view.WordExact} {hdst : dst.view.WordExact}
    (hu : dst.view.dmaCredit = units) :
    iprop(records m ρ K ∗ debt c 0 ∗ cred (tallyAt (recvCell c (peer c j)) () units) ∗ atPos EX (recvCell c (peer c j)) 0 ∅ 0)
      ⊢ iprop(((debt c 0 ∗ semVal (recvCell c (peer c j)) 0 ∗ rowPts c (peer c j) (gathered m ρ))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hR
  unfold debt
  iintro ⟨#HR, ⟨%W, HO⟩, Hc, Hat⟩ Hk
  iapply (Rounds.wp_wait_rest_token 𝒱₀ EX (sched m ρ) (c : Thread nD τ) none (κ := K (c, recvIx (peer c j)))
      (wpE_waitDma2_eq 𝒱₀ (c : Thread nD τ) none Set.univ) (Set.mem_univ _) () (O := 0) (W := W) (R := 0) (m := 0) (T := ∅)
      (by rw [expect_recv m ρ c _ (peer_ne c j), Nat.zero_add, hu])) $$ [Hc HO Hat]
  · isplitr; · iapply (inv_at m ρ K (c, recvIx (peer c j))); iexact HR
    isplitl [Hc]; · rw [hu]; iexact Hc
    isplitl [HO]; · iexact HO
    isplitr; · rw [MayWait_zero]; iempintro
    iexact Hat
  iintro ⟨HO, Hat, -, Hpay⟩
  ihave Hp := (Entails.of_eq (rest_recv m ρ c _ (peer_ne c j))) $$ Hpay
  imod (Rounds.cell_close EX (sched m ρ) (Set.mem_univ (K (c, recvIx (peer c j)))) (fun h => h) (R := 0 + 1)
    (duties_later m ρ (recvCell c (peer c j)))) $$ [Hat] with Hz
  · isplitr; · iapply (inv_at m ρ K (c, recvIx (peer c j))); iexact HR
    iexact Hat
  iapply Hk
  isplitl [HO]; · iexists _; iexact HO
  isplitl [Hz]; · iexact Hz
  iexact Hp

/-- Waiting for the `j`-th copy to have left returns the lent share and leaves the semaphore at zero. -/
theorem step_left {α : Type} {Q : α → sProp 𝕄} {k : PUnit → Prog (TpuEff nD τ sig (Elt F) Λ₀ .tc) α}
    (c : Dev nD) (j : Fin 3) (sS : DmaSem sig) (hS : sS = sendS j) {sp sp' : Space} {s s' : Shape} {e e' : EltTy}
    {src : Memref sig .tc sp' s' e'} {dst : Memref sig .tc sp s e} {hsrc : src.view.WordExact} {hdst : dst.view.WordExact}
    (hu : dst.view.dmaCredit = units) :
    iprop(records m ρ K ∗ debt c 0 ∗ cred (tallyAt (sendCell c j) () units) ∗ atPos EX (sendCell c j) 0 ∅ 0)
      ⊢ iprop(((debt c 0 ∗ semVal (sendCell c j) 0 ∗ comPts c (lent j) (blockOf m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hS
  unfold debt
  iintro ⟨#HR, ⟨%W, HO⟩, Hc, Hat⟩ Hk
  iapply (Rounds.wp_wait_rest_token 𝒱₀ EX (sched m ρ) (c : Thread nD τ) none (κ := K (c, sendIx j))
      (wpE_waitDma2_eq 𝒱₀ (c : Thread nD τ) none Set.univ) (Set.mem_univ _) () (O := 0) (W := W) (R := 0) (m := 0) (T := ∅)
      (by rw [expect_send m ρ c j, Nat.zero_add, hu])) $$ [Hc HO Hat]
  · isplitr; · iapply (inv_at m ρ K (c, sendIx j)); iexact HR
    isplitl [Hc]; · rw [hu]; iexact Hc
    isplitl [HO]; · iexact HO
    isplitr; · rw [MayWait_zero]; iempintro
    iexact Hat
  iintro ⟨HO, Hat, -, Hpay⟩
  ihave Hp := (Entails.of_eq (rest_send m ρ c j)) $$ Hpay
  imod (Rounds.cell_close EX (sched m ρ) (Set.mem_univ (K (c, sendIx j))) (fun h => h) (R := 0 + 1)
    (duties_later m ρ (sendCell c j))) $$ [Hat] with Hz
  · isplitr; · iapply (inv_at m ρ K (c, sendIx j)); iexact HR
    iexact Hat
  iapply Hk
  isplitl [HO]; · iexists _; iexact HO
  isplitl [Hz]; · iexact Hz
  iexact Hp

/-- The semaphore for arrivals from the device itself is untouched: at zero. -/
theorem close_self (c : Dev nD) :
    iprop(records (F := F) m ρ K ∗ atPos EX (recvCell c c) 0 ∅ 0) ⊢ |={Set.univ}=> semVal (recvCell c c) 0 := by
  iintro ⟨#HR, Hat⟩
  iapply (Rounds.cell_close EX (sched m ρ) (Set.mem_univ (K (c, recvIx c))) (fun h => h) (R := 0) (duties_self m ρ c))
  isplitr; · iapply (inv_at m ρ K (c, recvIx c)); iexact HR
  iexact Hat

end Cert.KernelIdeal.Gather

end
-- ==== Proof.BodyKernelIdeal.lean ====
/-
# The body of the exchange

The steps put together: a device that holds its block, its four row blocks of the result, the credit it
was launched with and its duties runs the kernel's body, and comes out with every row block filled.
-/
module

public import proofs.«01_k».proof.Proof.StepsKernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The eight semaphores of a device, listed. -/
theorem cells_listed (c : Dev nD) (Φ : Cell → sProp 𝕄) :
    bigSep Finset.univ Φ = iprop(Φ barIx ∗ (Φ (sendIx 0) ∗ Φ (sendIx 1) ∗ Φ (sendIx 2))
      ∗ (Φ (recvIx c) ∗ Φ (recvIx (peer c 0)) ∗ Φ (recvIx (peer c 1)) ∗ Φ (recvIx (peer c 2)))) := by
  have hU : bigSep Finset.univ (fun u : Unit => Φ (.inl u)) = Φ barIx := by
    rw [show (Finset.univ : Finset Unit) = {()} from rfl, bigSep_singleton]
  have hD : bigSep Finset.univ (fun s : Dev nD => Φ (.inr (.inr s)))
      = iprop(Φ (recvIx c) ∗ Φ (recvIx (peer c 0)) ∗ Φ (recvIx (peer c 1)) ∗ Φ (recvIx (peer c 2))) :=
    bigSep_univ_eq_bigSepL [c, peer c 0, peer c 1, peer c 2] (by rw [univ_peers c]; simp) (peers_nodup c) _
  rw [bigSep_univ_sum, bigSep_univ_sum, hU, hD, fin3_sep]; rfl

/-- The nine duties of a device, listed. -/
theorem acts_listed (Φ : Act → sProp 𝕄) :
    bigSep Finset.univ Φ = iprop((Φ (.inl 0) ∗ Φ (.inl 1) ∗ Φ (.inl 2))
      ∗ (Φ (.inr (.inl 0)) ∗ Φ (.inr (.inl 1)) ∗ Φ (.inr (.inl 2)))
      ∗ (Φ (.inr (.inr 0)) ∗ Φ (.inr (.inr 1)) ∗ Φ (.inr (.inr 2)))) := by
  rw [bigSep_univ_sum, bigSep_univ_sum, fin3_sep, fin3_sep, fin3_sep]; rfl

/-- A staging buffer of device `c` with its contents. -/
abbrev buf (c : Dev nD) (b : Ref sig .tc) (f : Buf (Elt F) ((c : Thread nD τ).loc b)) : sProp 𝕄 := ((c : Thread nD τ).loc b) ↦{fullShare} f

/-- The buffer just stored to, cut into the shares the copies borrow. -/
theorem com_cut (c : Dev nD) (f : Buf (Elt F) ((c : Thread nD τ).loc cc0_scratch0)) :
    ((comM.access (Rect.unit (s := S256x256) ![0, 0] S256x256.size inb_S256x256_S256x256_0_0) : View sig .tc _ _ _).loc (c : Thread nD τ)
        ↦[comM.view.set]{fullShare} f : sProp 𝕄)
      ⊢ iprop((comPts c (lent 0) f ∗ comPts c (lent 1) f) ∗ (comPts c (lent 2) f ∗ comPts c kept f)) :=
  Entails.of_eq (com_shares c f)

/-- The device's own rows just stored, as rows of the array every device ends with. -/
theorem own_written (c : Dev nD) (f : Buf (Elt F) ((c : Thread nD τ).loc cc0_stg1_0)) :
    ((outM.access (Rect.unit (s := S1024x256) (k0_off3 c) S256x256.size (k0_off3_inb c)) : View sig .tc _ _ _).loc (c : Thread nD τ)
        ↦[(rowM c).view.set]{fullShare} (rowM c).view.write (Elt F) f (blockOf m ρ c) Finset.univ : sProp 𝕄)
      ⊢ rowPts c c (gathered m ρ) :=
  Entails.of_eq (row_written m ρ c c f)

/-- What the body leaves behind. -/
def done (c : Dev nD) : sProp 𝕄 :=
  iprop(debt c 0 ∗ Φ₁ m ρ c ∗ buf c cc0_stg0_0 (blockOf m ρ c) ∗ buf c cc0_stg1_0 (gathered m ρ))

set_option maxRecDepth 8000 in
set_option maxHeartbeats 4000000 in
/-- The body runs from the launch's set-up to what it is to leave behind. -/
theorem run_body (K : Dev nD × Cell → ℕ) (c : Dev nD) (f : Buf (Elt F) ((c : Thread nD τ).loc cc0_stg1_0))
    (g : Buf (Elt F) ((c : Thread nD τ).loc cc0_scratch0)) (Kt : PUnit → sProp 𝕄) :
    iprop(records m ρ K ∗ mine c ∗ creds c ∗ levAts levels level ∗ debt c (oweAll c)
        ∗ comPts c fullShare g ∗ buf c cc0_stg0_0 (blockOf m ρ c) ∗ buf c cc0_stg1_0 f)
      ⊢ iprop((done m ρ c -∗ Kt ⟨⟩)
        -∗ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt) := by
  unfold mine creds buf
  rw [cells_listed c, acts_listed, fin3_sep, out_rows]
  iintro ⟨#HR, ⟨⟨HatB, ⟨HatS0, HatS1, HatS2⟩, HatV, HatV0, HatV1, HatV2⟩, ⟨HtB0, HtB1, HtB2⟩, ⟨HtV0, HtV1, HtV2⟩, HtS0, HtS1, HtS2⟩,
    ⟨HcB, HcV0, HcV1, HcV2⟩, #Hlev, HO, Hcom, Hin, Hrow, Hrow0, Hrow1, Hrow2⟩ Hk
  simp only [cc0_body_eq_skeleton]
  unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold oweAll
  -- the signals and the meeting
  iapply (step_signal m ρ K c 0 _ (sig_dev0 c) _ f) $$ [HO HtB0 Hrow0]
  · isplitr; · iexact HR
    isplitl [HO]; · iexact HO
    isplitl [HtB0] <;> iassumption
  iintro HO
  iapply (step_signal m ρ K c 1 _ (sig_dev1 c) _ f) $$ [HO HtB1 Hrow1]
  · isplitr; · iexact HR
    isplitl [HO]; · iexact HO
    isplitl [HtB1] <;> iassumption
  iintro HO
  iapply (step_signal m ρ K c 2 _ (sig_dev2 c) _ f) $$ [HO HtB2 Hrow2]
  · isplitr; · iexact HR
    isplitl [HO]; · iexact HO
    isplitl [HtB2] <;> iassumption
  iintro HO
  iapply (step_meet m ρ K c) $$ [HO HcB HatB]
  · isplitr; · iexact HR
    isplitr; · iexact Hlev
    isplitl [HO]; · iexact HO
    isplitl [HcB] <;> iassumption
  unfold meetPay
  iintro ⟨HO, HzB, ⟨%f0, Hrow0⟩, ⟨%f1, Hrow1⟩, ⟨%f2, Hrow2⟩⟩
  -- the block is loaded and put into the buffer it is sent from
  iapply (wp_load 𝒱₀ (c : Thread nD τ) none Set.univ (m := inM) (Finset.subset_univ _)) $$ Hin; iintro Hin
  rw [load_in]
  unfold comPts
  iapply (wp_load 𝒱₀ (c : Thread nD τ) none Set.univ (m := comM) (by rw [View.set_whole]; exact Finset.subset_univ _)) $$ Hcom; iintro Hcom
  iapply (wp_store 𝒱₀ (c : Thread nD τ) none Set.univ (m := comM)
    (r := Rect.unit (s := S256x256) ![0, 0] S256x256.size inb_S256x256_S256x256_0_0) (Mk := Finset.univ)
    (by rw [View.set_whole]; exact Finset.subset_univ _)) $$ Hcom
  iintro Hcom
  rw [payload_id, store_com]
  ihave Hcom := (com_cut c (blockOf m ρ c)) $$ Hcom
  icases Hcom with ⟨⟨Hc0, Hc1⟩, Hc2, Hck⟩
  unfold oweRows
  -- the three copies
  iapply (step_copy m ρ K c 0 _ (copy_dev0 c) _ _ send_sem0 (recv_sem c) _ f0) $$ [HO Hc0 Hrow0 HtS0 HtV0]
  · isplitr; · iexact HR
    isplitl [Hc0]; · iexact Hc0
    isplitl [Hrow0]; · iexact Hrow0
    isplitl [HO]; · iexact HO
    isplitl [HtS0] <;> iassumption
  iintro ⟨HcS0, HO⟩
  iapply (step_copy m ρ K c 1 _ (copy_dev1 c) _ _ send_sem1 (recv_sem c) _ f1) $$ [HO Hc1 Hrow1 HtS1 HtV1]
  · isplitr; · iexact HR
    isplitl [Hc1]; · iexact Hc1
    isplitl [Hrow1]; · iexact Hrow1
    isplitl [HO]; · iexact HO
    isplitl [HtS1] <;> iassumption
  iintro ⟨HcS1, HO⟩
  iapply (step_copy m ρ K c 2 _ (copy_dev2 c) _ _ send_sem2 (recv_sem c) _ f2) $$ [HO Hc2 Hrow2 HtS2 HtV2]
  · isplitr; · iexact HR
    isplitl [Hc2]; · iexact Hc2
    isplitl [Hrow2]; · iexact Hrow2
    isplitl [HO]; · iexact HO
    isplitl [HtS2] <;> iassumption
  iintro ⟨HcS2, HO⟩
  -- the device's own rows
  unfold comPts rowPts
  iapply (wp_load 𝒱₀ (c : Thread nD τ) none Set.univ (m := comM) (by rw [View.set_whole]; exact Finset.subset_univ _)) $$ Hck; iintro Hck
  rw [load_com]
  iapply (wp_load_rect 𝒱₀ (c : Thread nD τ) none Set.univ (m := outM)
    (r := Rect.unit (s := S1024x256) (k0_off3 c) S256x256.size (k0_off3_inb c)) (own_set c).subset) $$ Hrow; iintro Hrow
  iapply (wp_store 𝒱₀ (c : Thread nD τ) none Set.univ (m := outM)
    (r := Rect.unit (s := S1024x256) (k0_off3 c) S256x256.size (k0_off3_inb c)) (Mk := Finset.univ)
    (by rw [← own_set c]; exact (View.setOn_univ _).subset)) $$ Hrow
  iintro Hrow
  rw [own_write]
  ihave Hrow := (own_written m ρ c f) $$ Hrow
  -- the peers' rows
  iapply (step_arrive m ρ K c 0 _ (wait_sem0 c) (by rfl)) $$ [HO HcV0 HatV0]
  · isplitr; · iexact HR
    isplitl [HO]; · iexact HO
    isplitl [HcV0] <;> iassumption
  iintro ⟨HO, HzV0, Hrow0⟩
  iapply (step_arrive m ρ K c 1 _ (wait_sem1 c) (by rfl)) $$ [HO HcV1 HatV1]
  · isplitr; · iexact HR
    isplitl [HO]; · iexact HO
    isplitl [HcV1] <;> iassumption
  iintro ⟨HO, HzV1, Hrow1⟩
  iapply (step_arrive m ρ K c 2 _ (wait_sem2 c) (by rfl)) $$ [HO HcV2 HatV2]
  · isplitr; · iexact HR
    isplitl [HO]; · iexact HO
    isplitl [HcV2] <;> iassumption
  iintro ⟨HO, HzV2, Hrow2⟩
  -- the lent shares
  iapply (step_left m ρ K c 0 _ send_sem0 (by rfl)) $$ [HO HcS0 HatS0]
  · isplitr; · iexact HR
    isplitl [HO]; · iexact HO
    isplitl [HcS0] <;> iassumption
  iintro ⟨HO, HzS0, Hc0⟩
  iapply (step_left m ρ K c 1 _ send_sem1 (by rfl)) $$ [HO HcS1 HatS1]
  · isplitr; · iexact HR
    isplitl [HO]; · iexact HO
    isplitl [HcS1] <;> iassumption
  iintro ⟨HO, HzS1, Hc1⟩
  iapply (step_left m ρ K c 2 _ send_sem2 (by rfl)) $$ [HO HcS2 HatS2]
  · isplitr; · iexact HR
    isplitl [HO]; · iexact HO
    isplitl [HcS2] <;> iassumption
  iintro ⟨HO, HzS2, Hc2⟩
  imod (close_self m ρ K c) $$ [HatV] with HzV
  · isplitr; · iexact HR
    iexact HatV
  rw [wp_ret]; imodintro
  iapply Hk
  unfold done Φ₁ buf
  rw [cells_listed c, out_rows, com_shares]
  isplitl [HO]; · iexact HO
  isplitr [Hin Hrow Hrow0 Hrow1 Hrow2]
  · isplitl [Hc0 Hc1 Hc2 Hck]
    · isplitl [Hc0 Hc1]
      · isplitl [Hc0] <;> iassumption
      isplitl [Hc2]; · iexact Hc2
      unfold comPts; iexact Hck
    isplitl [HzB]; · iexact HzB
    isplitl [HzS0 HzS1 HzS2]
    · isplitl [HzS0]; · iexact HzS0
      isplitl [HzS1] <;> iassumption
    isplitl [HzV]; · iexact HzV
    isplitl [HzV0]; · iexact HzV0
    isplitl [HzV1] <;> iassumption
  isplitl [Hin]; · iexact Hin
  isplitl [Hrow]; · iexact Hrow
  isplitl [Hrow0]; · iexact Hrow0
  isplitl [Hrow1] <;> iassumption

/-! ## The library's form -/

theorem bigSep_W (Φ : Fin cfg0.W → sProp 𝕄) : bigSep Finset.univ Φ = iprop(Φ (0 : Fin 2) ∗ Φ (1 : Fin 2)) := bigSep_W0 Φ

/-- Owning a whole buffer with given contents. -/
theorem owns_buf (c : Dev nD) (b : Ref sig .tc) (X : b.ty.Contents (Elt F)) :
    (owns (c : Thread nD τ) (Memref.whole b) fullShare X : sProp 𝕄) = iprop(∃ f, ⌜f = X⌝ ∗ buf c b f) := by
  unfold owns; simp only [Memref.view_whole, View.read_whole, View.set_whole]

/-- The debt as the pipeline keeps it, at either end of the one grid point. -/
theorem debt_in (c : Dev nD) : (dats m ρ 0 c).owesAt () t0_0.castSucc ⊢ debt c (oweAll c) := by
  unfold Dat.owesAt Pipeline.owesWithin debt
  iintro ⟨%W, -, HO⟩
  iexists W; iexact HO
theorem debt_out (c : Dev nD) : debt c 0 ⊢ (dats m ρ 0 c).owesAt () t0_0.succ := by
  unfold Dat.owesAt Pipeline.owesWithin debt
  iintro ⟨%W, HO⟩
  iexists W
  isplitr; · ipureintro; exact fun _ _ => Or.inl trivial
  iexact HO

def bodyIn (c : Dev nD) : sProp 𝕄 :=
  iprop(Φ₀ m ρ c ∗ (dats m ρ 0 c).owesAt () t0_0.castSucc
    ∗ (∃ d, ∃ f, ⌜f = (dats m ρ 0 c).before (0 : Fin 2) t0_0 d⌝ ∗ buf c cc0_stg0_0 f)
    ∗ (∃ d, ∃ f, ⌜f = (dats m ρ 0 c).before (1 : Fin 2) t0_0 d⌝ ∗ buf c cc0_stg1_0 f))
def bodyOut (c : Dev nD) : sProp 𝕄 :=
  iprop(Φ₁ m ρ c ∗ (dats m ρ 0 c).owesAt () t0_0.succ
    ∗ (∃ f, ⌜f = blockOf m ρ c⌝ ∗ buf c cc0_stg0_0 f) ∗ (∃ f, ⌜f = gathered m ρ⌝ ∗ buf c cc0_stg1_0 f))

theorem done_out (c : Dev nD) : done m ρ c ⊢ bodyOut m ρ c := by
  unfold done bodyOut
  iintro ⟨HO, HP, Hi, Ho⟩
  isplitl [HP]; · iexact HP
  isplitl [HO]; · iapply (debt_out m ρ c); iexact HO
  isplitl [Hi]
  · iexists _; isplitr; · (ipureintro; rfl)
    iexact Hi
  iexists _; isplitr; · (ipureintro; rfl)
  iexact Ho

set_option maxRecDepth 8000 in
/-- The body meets what the pipeline asks of it at its one grid point. -/
theorem body_obligation (c : Dev nD) : BodyObligation (dats (F := F) m ρ 0 c) (defs₀ (F := F)) 𝒱₀ () Set.univ := fun t => by
  rw [fin_N0 t, bigSep_W, bigSep_W]
  simp only [owns_buf]
  show bodyIn m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyOut m ρ c)
  unfold bodyIn Φ₀ start ghost
  iintro ⟨⟨⟨⟨%K, HR, Hm⟩, Hc, Hl⟩, ⟨%g, Hcom⟩⟩, Ho, ⟨%d0, %f0, %h0, Hin⟩, ⟨%d1, %f1, %h1, Hout⟩⟩
  have e0 : f0 = blockOf m ρ c := by
    rw [h0]; unfold Dat.before; rw [if_pos (fetch0_0 t0_0)]; rfl
  subst e0
  ihave HO := (debt_in m ρ c) $$ Ho
  iapply (run_body m ρ K c f1 g (fun _ => bodyOut m ρ c)) $$ [HR Hm Hc Hl HO Hcom Hin Hout]
  · isplitl [HR]; · iexact HR
    isplitl [Hm]; · iexact Hm
    isplitl [Hc]; · iexact Hc
    isplitl [Hl]; · iexact Hl
    isplitl [HO]; · iexact HO
    isplitl [Hcom]; · iexact Hcom
    isplitl [Hin] <;> iassumption
  iapply (done_out m ρ c)

end Cert.KernelIdeal.Gather

end
-- ==== Proof.LaunchKernelIdeal.lean ====
/-
# The launch of the exchange

What the launch deals each device — the credit matching what the others owe it, its places at its own
semaphores, the duties it discharges — and, from the body, the run of the whole mesh with the arrays
every device ends with.
-/
module

public import proofs.«01_k».proof.Proof.BodyKernelIdeal
public import Idealize.ShloMosaic.Lib.Pipeline.Value
public import Idealize.ShloMosaic.Lib.Pipeline.CollectiveSegs
public import Idealize.ShloMosaic.Lib.Quiescent
public import Idealize.ShloMosaic.Lib.StableHlo.RunHlo
public import Idealize.ShloMosaic.Adequacy
public import Idealize.ShloMosaic.Init

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and duties of the mesh -/

theorem ownSemFacts : Pipeline.OwnSemFacts cfg0.spec ownSem := by decide

theorem cellAt_inj : Function.Injective (cellAt : Dev nD × Cell → GSem nD τ sig) := by decide +kernel
theorem dutyOf_inj : Function.Injective (dutyOf : Dev nD × Act → GSem nD τ sig × ℕ × Fin 3) := by decide +kernel

def allCells : Finset (GSem nD τ sig) := Finset.univ.map ⟨cellAt, cellAt_inj⟩
def allDuties : Finset (GSem nD τ sig × ℕ × Fin 3) := Finset.univ.map ⟨dutyOf, dutyOf_inj⟩

def u₀ : UU :=
  (initOf (Pipeline.cells cfgs cellOf_inj) (Pipeline.launchToks cfgs cellOf_inj), initOf allCells allDuties)

/-- What each device is dealt: its semaphores' states, its places at them, and the duties it is to discharge. -/
def G (c : Dev nD) : sProp 𝕄 :=
  iprop((bigSep Finset.univ fun k : Cell => roundState EX (sched m ρ) (cellAt (c, k)) 0)
    ∗ (bigSep Finset.univ fun k : Cell => reached EX (cellAt (c, k)) 0) ∗ mine c)

/-- What it holds once every semaphore's invariant stands. -/
def G' (c : Dev nD) : sProp 𝕄 := iprop(∃ K, ghost m ρ K c)

theorem fund_exchange : BI.own (EX (initOf allCells allDuties)) ⊢ (|==> bigSep Finset.univ (G m ρ) : sProp 𝕄) := by
  have hC (Φ : GSem nD τ sig → sProp 𝕄) :
      bigSep allCells Φ = bigSep Finset.univ fun c : Dev nD => bigSep Finset.univ fun k : Cell => Φ (cellAt (c, k)) := by
    unfold allCells; rw [bigSep_map, bigSep_univ_prod]; rfl
  have hD : bigSep allDuties (fun x => (dutyTok EX x.1 x.2.1 x.2.2 : sProp 𝕄))
      = bigSep Finset.univ fun c : Dev nD => bigSep Finset.univ fun a : Act => tok (c, a) := by
    unfold allDuties; rw [bigSep_map, bigSep_univ_prod]; rfl
  unfold G mine
  rw [bigSep_sep', bigSep_sep', bigSep_sep', ← hC fun g => roundState EX (sched m ρ) g 0, ← hC fun g => reached EX g 0,
    ← hC fun g => atPos EX g 0 ∅ 0, ← hD]
  iintro HX
  imod (Rounds.fund EX (sched m ρ) allCells allDuties) $$ HX with ⟨Hst, Hr, Hat, Htok⟩
  imodintro
  isplitl [Hst]; · iexact Hst
  isplitl [Hr]; · iexact Hr
  isplitl [Hat] <;> iassumption

/-- The one semaphore the launch does not scope is the barrier's, -/
theorem unscoped_bar (c : Dev nD) : (unscopedSems0 c : sProp 𝕄) = semVal (barCell c) 0 := by
  unfold unscopedSems0; rw [bigSep_eq_bigSepL_of_eq [SemLoc.reg barS] (by decide) (by decide)]; rfl

/-- so that with the kernel's own it makes the eight of the exchange. -/
theorem sems_eq (c : Dev nD) :
    (bigSep Finset.univ fun k : Cell => (semVal (cellAt (c, k)) 0 : sProp 𝕄))
      = iprop(unscopedSems0 c ∗ Pipeline.ownSems0 (Ix := Unit) (Name := ℕ) (U := UU) (Lvl := ℕ) (Val := Elt F) (τ := τ) ownSem c) := by
  rw [bigSep_univ_sum, unscoped_bar, show (Finset.univ : Finset Unit) = {()} from rfl, bigSep_singleton]; rfl

/-- Every semaphore of a device gets its invariant. -/
theorem allocate (c : Dev nD) :
    iprop(Pipeline.ownSems0 (Ix := Unit) (Name := ℕ) (U := UU) (Lvl := ℕ) (Val := Elt F) (τ := τ) ownSem c ∗ unscopedSems0 c ∗ G m ρ c)
      ⊢ |={Set.univ}=> iprop((bigSep Finset.univ fun k : Cell => iprop(∃ κ : ℕ, cellInv EX (sched m ρ) κ (cellAt (c, k))))
          ∗ (bigSep Finset.univ fun k : Cell => reached EX (cellAt (c, k)) 0) ∗ mine c) := by
  have each : iprop((bigSep Finset.univ fun k : Cell => semVal (cellAt (c, k)) 0)
        ∗ bigSep Finset.univ fun k : Cell => roundState EX (sched m ρ) (cellAt (c, k)) 0)
      ⊢ (|={Set.univ}=> bigSep Finset.univ fun k : Cell => iprop(∃ κ : ℕ, cellInv EX (sched m ρ) κ (cellAt (c, k))) : sProp 𝕄) := by
    rw [← bigSep_sep']
    exact (bigSep_mono fun k _ => (Rounds.body_intro EX (sched m ρ) (cellAt (c, k))).trans inv_alloc).trans (bigSep_fupd _ _)
  unfold G
  iintro ⟨Hown, Hbar, Hst, Hrest⟩
  imod each $$ [Hown Hbar Hst] with Hinv
  · isplitl [Hown Hbar]
    · rw [sems_eq]; isplitl [Hbar] <;> iassumption
    iexact Hst
  imodintro
  isplitl [Hinv] <;> iassumption

/-- All devices share the record of all invariants. -/
theorem share_records :
    (bigSep Finset.univ fun c : Dev nD => iprop((bigSep Finset.univ fun k : Cell => iprop(∃ κ : ℕ, cellInv EX (sched m ρ) κ (cellAt (c, k))))
          ∗ (bigSep Finset.univ fun k : Cell => reached EX (cellAt (c, k)) 0) ∗ mine c) : sProp 𝕄)
      ⊢ bigSep Finset.univ (G' m ρ) := by
  rw [bigSep_sep', bigSep_sep', ← bigSep_univ_prod (fun x : Dev nD × Cell => iprop(∃ κ : ℕ, cellInv EX (sched m ρ) κ (cellAt x))),
    ← bigSep_univ_prod (fun x : Dev nD × Cell => (reached EX (cellAt x) 0 : sProp 𝕄))]
  iintro ⟨HI, HR, Hmine⟩
  ihave HK := (BI.bigSep_exists_pi Finset.univ (fun (x : Dev nD × Cell) (κ : ℕ) => (cellInv EX (sched m ρ) κ (cellAt x) : sProp 𝕄))) $$ HI
  icases HK with ⟨%K, HI⟩
  have one : ∀ c ∈ (Finset.univ : Finset (Dev nD)), iprop(records m ρ K ∗ mine c) ⊢ G' m ρ c := fun c _ => by
    unfold G' ghost
    iintro H
    iexists K; iexact H
  iapply (bigSep_with_persistent (R := records m ρ K) one)
  isplitl [HI HR]
  · unfold records; isplitl [HI] <;> iassumption
  iexact Hmine

theorem set_up : (bigSep Finset.univ fun c => iprop(Pipeline.ownSems0 (Ix := Unit) (Name := ℕ) (U := UU) (Lvl := ℕ) (Val := Elt F) (τ := τ) ownSem c
      ∗ unscopedSems0 c ∗ G m ρ c) : sProp 𝕄) ⊢ |={Set.univ}=> bigSep Finset.univ (G' m ρ) :=
  ((bigSep_mono fun c _ => allocate m ρ c).trans (bigSep_fupd _ _)).trans (BI.fupd_mono (share_records m ρ))

/-! ## The credit a device starts with -/

/-- Summed over the mesh, the `j`-th signals come to one unit on every barrier. -/
theorem dealt_bar (j : Fin 3) (c : Dev nD) : (Pipeline.launchCred (fun d => oweBar d j) c : sProp 𝕄) = cred (tallyAt (barCell c) () 1) :=
  Pipeline.launchCred_of_sum (fun d => oweBar d j) (fun c => tallyAt (barCell c) () 1)
    (Equiv.sum_comp (peerPerm j) fun c => (tallyAt (barCell c) () 1 : CellTallies nD τ sig Unit))
    (fun d g hg => by
      by_contra hn
      exact hg (tallyAt_ne_cell (fun h => hn (congrArg Prod.fst h)) _ _)) c

/-- Summed over the mesh, the `j`-th copies come to one block at every device, from the peer that reaches it so. -/
theorem dealt_row (j : Fin 3) (c : Dev nD) :
    (Pipeline.launchCred (fun d => oweRow d j) c : sProp 𝕄) = cred (tallyAt (recvCell c (peer c (back j))) () units) := by
  refine Pipeline.launchCred_of_sum (fun d => oweRow d j) (fun c => tallyAt (recvCell c (peer c (back j))) () units)
    (Eq.trans (Finset.sum_congr rfl fun d _ => ?_)
      (Equiv.sum_comp (peerPerm j) fun c => (tallyAt (recvCell c (peer c (back j))) () units : CellTallies nD τ sig Unit)))
    (fun d g hg => by
      by_contra hn
      exact hg (tallyAt_ne_cell (fun h => hn (congrArg Prod.fst h)) _ _)) c
  show tallyAt (recvCell (peer d j) d) () units = tallyAt (recvCell (peer d j) (peer (peer d j) (back j))) () units
  rw [peer_back]

theorem dealt (c : Dev nD) : (Pipeline.launchCred oweAll c : sProp 𝕄) ⊢ creds c := by
  have h : (Pipeline.launchCred oweAll c : sProp 𝕄)
      = iprop((((((emp ∗ cred (tallyAt (recvCell c (peer c (back 2))) () units)) ∗ cred (tallyAt (recvCell c (peer c (back 1))) () units))
          ∗ cred (tallyAt (recvCell c (peer c (back 0))) () units)) ∗ cred (tallyAt (barCell c) () 1)) ∗ cred (tallyAt (barCell c) () 1))
          ∗ cred (tallyAt (barCell c) () 1)) := by
    rw [← dealt_row 2 c, ← dealt_row 1 c, ← dealt_row 0 c, ← Pipeline.launchCred_zero c]
    nth_rw 1 [← dealt_bar 2 c]
    nth_rw 1 [← dealt_bar 1 c]
    rw [← dealt_bar 0 c]
    rw [← Pipeline.launchCred_add, ← Pipeline.launchCred_add, ← Pipeline.launchCred_add, ← Pipeline.launchCred_add, ← Pipeline.launchCred_add,
      ← Pipeline.launchCred_add]
    rfl
  have three : iprop((cred (tallyAt (barCell c) () 1) ∗ cred (tallyAt (barCell c) () 1)) ∗ cred (tallyAt (barCell c) () 1))
      ⊢ (cred (tallyAt (barCell c) () 3) : sProp 𝕄) := by
    rw [show (tallyAt (barCell c) () 3 : CellTallies nD τ sig Unit)
      = (tallyAt (barCell c) () 1 + tallyAt (barCell c) () 1) + tallyAt (barCell c) () 1 from by rw [tallyAt_add, tallyAt_add]]
    exact (sep_mono_left (cred_add _ _).2).trans (cred_add _ _).2
  rw [h]
  unfold creds
  rw [fin3_sep]
  iintro ⟨⟨⟨⟨⟨⟨-, H1⟩, H2⟩, H0⟩, Ha⟩, Hb⟩, Hc⟩
  isplitl [Ha Hb Hc]
  · iapply three
    isplitl [Ha Hb]
    · isplitl [Ha] <;> iassumption
    iexact Hc
  isplitl [H0]; · iexact H0
  isplitl [H1]; · iexact H1
  iexact H2

/-! ## The run -/

theorem share_full (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts levels level
        ∗ Pipeline.launchCred oweAll c ∗ prngReg c (ρ c) ∗ G' m ρ c)
      ⊢ |={Set.univ}=> iprop(start m ρ c ∗ emp) := by
  iintro ⟨-, Hlev, Hcr, -, HG⟩
  imodintro
  unfold start G'
  isplitl
  · isplitl [HG]; · iexact HG
    isplitl [Hcr]; · iapply (dealt c); iexact Hcr
    iexact Hlev
  iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hf⟩⟩
  isplitl [Hs]; · iexact Hs
  iexists f; rw [com_whole]; iexact Hf

theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = Φ₁ m ρ c from rfl, scopedRest0_eq]
  unfold Φ₁
  rw [sems_eq, com_whole]
  iintro ⟨Hf, Hbar, Hown⟩
  isplitl [Hbar]; · iexact Hbar
  isplitl [Hown]; · iexact Hown
  iexists (blockOf m ρ c); iexact Hf

theorem waits (c : Dev nD) : (levAts levels level : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The contents each window's array ends with. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Started from any memory with every semaphore at zero, the four devices terminate, each with its windows' arrays at the
    final contents and every semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_full m ρ) (hdistinct := winFacts0.arr_inj)
    (O₀ := oweAll) (howed₀ := fun _ => rfl) (howedN := fun _ => rfl)
    (L := levels) (lv := level) (hL := levels_other) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := set_up m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final contents -/

/-- The argument array is as it was. -/
theorem final_arg (c : Dev nD) : finalA m ρ c (0 : Fin 2) = m ((c : Thread nD τ).loc main_arg0) :=
  (dats (F := F) m ρ 0 c).arrAt_in (0 : Fin 2) rfl _

/-- A block at index zero starts at the first element. -/
theorem from_start (b n : ℕ) : 0 * b + 1 * n = n := by omega

/-- The block a device stages is its whole argument array. -/
theorem block_eq (c : Dev nD) : blockOf m ρ c = m ((c : Thread nD τ).loc main_arg0) := by
  unfold blockOf
  funext i
  rw [View.read_apply]
  refine congrArg (m ((c : Thread nD τ).loc main_arg0)) (funext fun a => Fin.ext ?_)
  match a with
  | ⟨0, _⟩ => exact from_start 256 _
  | ⟨1, _⟩ => exact from_start 256 _

/-- The block a device writes back is its whole result array. -/
theorem emb_result (i : S1024x256.Idx) : (win0_1.blk (0 : Fin 1)).view.emb i = i := by
  refine funext fun a => Fin.ext ?_
  match a with
  | ⟨0, _⟩ => exact from_start 1024 _
  | ⟨1, _⟩ => exact from_start 256 _

/-- The result array is the four blocks one below the other. -/
theorem final_result (c : Dev nD) : finalA m ρ c (1 : Fin 2) = gathered m ρ := by
  refine (dats m ρ 0 c).arrAt_eq_of_cover (1 : Fin 2) (gathered m ρ) (fun t _ => ?_) (fun i => ⟨t0_0, flush0_1 _, ?_⟩)
  · obtain rfl := fin_N0 t
    have key : ∀ i : S1024x256.Idx, gathered m ρ i = gathered m ρ ((win0_1.blk (0 : Fin 1)).view.emb i) := fun i => by rw [emb_result]
    exact funext fun i => key i
  · have key : ∀ i : S1024x256.Idx, i ∈ (win0_1.blk (0 : Fin 1)).view.set := fun i => by
      have h := (win0_1.blk (0 : Fin 1)).view.emb_mem_set i
      rwa [emb_result] at h
    exact key i

/-- The run in terms of the program's arrays: every device ends with the four blocks one below the other in its result
    array, its argument array as it was, and every semaphore at zero. -/
theorem run_arrays : θ_run defs (onTc (τ := τ) (main (F := F))) ⟨m, fun _ => 0, ρ⟩ (fun r =>
    (∀ c : Dev nD, r.2.mem ((c.tc : Thread nD τ).loc main_v1) = gather (fun s => m ((s.tc : Thread nD τ).loc main_arg0))
      ∧ r.2.mem ((c.tc : Thread nD τ).loc main_arg0) = m ((c.tc : Thread nD τ).loc main_arg0))
    ∧ r.2.sem = fun _ => 0) := by
  refine θ_run_mono (run_main m ρ) fun r h => ⟨fun c => ⟨?_, ?_⟩, h.2⟩
  · refine (h.1 c (1 : Fin 2)).trans ((final_result m ρ c).trans ?_)
    exact congrArg gather (funext fun s => block_eq m ρ s)
  · exact (h.1 c (0 : Fin 2)).trans (final_arg m ρ c)

end Cert.KernelIdeal.Gather

end
-- ==== Proof.Reference.lean ====
/-
# The reference

The reference returns its argument: its program is empty. It ends at once, with every array as it was.
It has no semaphores, so every semaphore it has ends at zero.
-/
module

public import proofs.«01_k».proof.ReferenceIdeal
public import proofs.«01_k».proof.Proof.Gen.ReferenceIdeal
public import Idealize.ShloMosaic.Lib.StableHlo.Run
public import Idealize.ShloMosaic.Lib.StableHlo.RunHlo

@[expose] public section

noncomputable section

namespace Cert.ReferenceIdeal.Whole

open Idealize.ShloMosaic Idealize.ShloMosaic.StableHlo Idealize.SL.Sem Cert.ReferenceIdeal

variable {F : FTy → Type} [FloatOps F]

/-- The program has no semaphore of any kind. -/
theorem no_sem (s : SemLoc sig) : False := by
  rcases s with s | s <;> exact Fin.elim0 s

/-- The reference ends with its array as it was and, having no semaphore, with every semaphore at zero. -/
theorem run_same (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0))
      ∧ r.2.sem = fun _ => 0) :=
  θ_run_mono (run_seq (by decide) (Finset.eq_empty_of_forall_notMem fun s _ => no_sem s) defs main (fun _ => [])
      (fun _ => rfl) (fun _ => trivial) m ρ (fun _ _ h => nomatch h))
    fun _ h => ⟨fun c => h c main_arg0, funext fun g => (no_sem g.2).elim⟩

end Cert.ReferenceIdeal.Whole

end
-- ==== Proof.Value.lean ====
/-
# The gathered array is the whole array

When the four devices hold the four row blocks of one array, the blocks one below the other are that array.
-/
module

public import proofs.«01_k».proof.Proof.RowsKernelIdeal
public import Idealize.ShloMosaic.Lib.Layout

@[expose] public section

noncomputable section

namespace Cert.KernelIdeal.Gather

open Idealize.ShloMosaic Cert.KernelIdeal

variable {F : FTy → Type}

/-- Cutting an array of 1024 rows into four blocks and stacking the blocks again changes nothing. -/
theorem gather_blocks (x : S1024x256.Idx → Elt F .bf16) :
    gather (fun s => Layout.block ⟨2, ![256, 256]⟩ ⟨2, ![1024, 256]⟩ 0 4 s x) = x := by
  funext i
  refine congrArg x (funext fun a => Fin.ext ?_)
  match a with
  | ⟨0, _⟩ =>
    show (i 0).val / 256 * 256 + (i 0).val % 256 = (i 0).val
    omega
  | ⟨1, _⟩ => rfl

end Cert.KernelIdeal.Gather

end
-- ==== Proof.lean ====
/-
# The certificate

The all-gather kernel and its reading over exact numbers run to the end, leave their arguments as they were and every
semaphore at zero; and over exact numbers every device's result is the reference's array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.LaunchKernel
public import proofs.«01_k».proof.Proof.LaunchKernelIdeal
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.SL.Sem

/-- The kernel runs to the end, its argument unchanged and every semaphore at zero. -/
theorem kernel_quiescent : Cert.quiescent_Kernel (hKernel := Cert.Kernel.Gen.facts) := fun m ρ _ =>
  letI := Cert.Kernel.Gen.facts
  θ_run_mono (Cert.Kernel.Gather.run_arrays m ρ) fun _ h => ⟨fun c => (h.1 c).2, h.2⟩

/-- So does the kernel over exact numbers. -/
theorem kernelIdeal_quiescent : Cert.quiescent_KernelIdeal (hKernelIdeal := Cert.KernelIdeal.Gen.facts) := fun m ρ _ =>
  letI := Cert.KernelIdeal.Gen.facts
  θ_run_mono (Cert.KernelIdeal.Gather.run_arrays m ρ) fun _ h => ⟨fun c => (h.1 c).2, h.2⟩

/-- So does the reference. -/
theorem reference_quiescent : Cert.quiescent_ReferenceIdeal (hReferenceIdeal := Cert.ReferenceIdeal.Gen.facts) :=
  fun m ρ _ => letI := Cert.ReferenceIdeal.Gen.facts; Cert.ReferenceIdeal.Whole.run_same m ρ

/-- When each device holds its row block of the reference's array, every device's result is the reference's result. -/
theorem result_equal : Cert.algebraic_KernelIdeal_ReferenceIdeal (hKernelIdeal := Cert.KernelIdeal.Gen.facts)
    (hReferenceIdeal := Cert.ReferenceIdeal.Gen.facts) := by
  letI := Cert.KernelIdeal.Gen.facts
  letI := Cert.ReferenceIdeal.Gen.facts
  intro m ρ m' ρ' _ hm
  refine ⟨m' (((0 : Dev Cert.ReferenceIdeal.nD).tc : Thread Cert.ReferenceIdeal.nD Cert.ReferenceIdeal.τ).loc Cert.ReferenceIdeal.main_arg0),
    θ_run_mono (Cert.KernelIdeal.Gather.run_arrays m ρ) fun r h c => ⟨(h.1 c).1.trans ?_, (h.1 c).2⟩,
    θ_run_mono (Cert.ReferenceIdeal.Whole.run_same m' ρ') fun r h => ⟨h.1 0, h.1 0⟩⟩
  exact (congrArg Cert.KernelIdeal.Gather.gather (funext hm)).trans (Cert.KernelIdeal.Gather.gather_blocks _)

/-- Every claim of the certificate. -/
theorem claim : Cert.Claim := ⟨Cert.Kernel.Gen.facts, Cert.KernelIdeal.Gen.facts, Cert.ReferenceIdeal.Gen.facts,
  kernel_quiescent, kernelIdeal_quiescent, reference_quiescent, trivial, result_equal⟩

end Cert.Proof

end
